-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x8192x3072 : Shape := ⟨3, ![1, 8192, 3072]⟩
abbrev S1x8192x1 : Shape := ⟨3, ![1, 8192, 1]⟩
abbrev S3072x3072 : Shape := ⟨2, ![3072, 3072]⟩
abbrev S3072 : Shape := ⟨1, ![3072]⟩
abbrev S8192x3072 : Shape := ⟨2, ![8192, 3072]⟩
abbrev S8192x1 : Shape := ⟨2, ![8192, 1]⟩
abbrev S1x3072 : Shape := ⟨2, ![1, 3072]⟩
abbrev S512x3072 : Shape := ⟨2, ![512, 3072]⟩
abbrev S512x1 : Shape := ⟨2, ![512, 1]⟩
abbrev S3072x1024 : Shape := ⟨2, ![3072, 1024]⟩
abbrev S1x1024 : Shape := ⟨2, ![1, 1024]⟩
abbrev S512x1024 : Shape := ⟨2, ![512, 1024]⟩

abbrev nBuf : Space → Nat
  | .hbm => 11
  | .vmem => 12
  | .smem => 0
  | _ => 0

abbrev bufTy : (tb : Table) → Fin (tcTables nBuf tb) → BufTy
  | .hbm, ⟨0, _⟩ => ⟨S1x8192x3072, .fp8e4m3⟩
  | .hbm, ⟨1, _⟩ => ⟨S1x8192x1, .f32⟩
  | .hbm, ⟨2, _⟩ => ⟨S3072x3072, .fp8e4m3⟩
  | .hbm, ⟨3, _⟩ => ⟨S3072, .f32⟩
  | .hbm, ⟨4, _⟩ => ⟨S3072, .f32⟩
  | .hbm, ⟨5, _⟩ => ⟨S8192x3072, .fp8e4m3⟩
  | .hbm, ⟨6, _⟩ => ⟨S8192x1, .f32⟩
  | .hbm, ⟨7, _⟩ => ⟨S1x3072, .f32⟩
  | .hbm, ⟨8, _⟩ => ⟨S1x3072, .f32⟩
  | .hbm, ⟨9, _⟩ => ⟨S8192x3072, .bf16⟩
  | .hbm, ⟨10, _⟩ => ⟨S1x8192x3072, .bf16⟩
  | .local _ .vmem, ⟨0, _⟩ => ⟨S512x3072, .fp8e4m3⟩
  | .local _ .vmem, ⟨1, _⟩ => ⟨S512x3072, .fp8e4m3⟩
  | .local _ .vmem, ⟨2, _⟩ => ⟨S512x1, .f32⟩
  | .local _ .vmem, ⟨3, _⟩ => ⟨S512x1, .f32⟩
  | .local _ .vmem, ⟨4, _⟩ => ⟨S3072x1024, .fp8e4m3⟩
  | .local _ .vmem, ⟨5, _⟩ => ⟨S3072x1024, .fp8e4m3⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S1x1024, .f32⟩
  | .local _ .vmem, ⟨10, _⟩ => ⟨S512x1024, .bf16⟩
  | .local _ .vmem, ⟨11, _⟩ => ⟨S512x1024, .bf16⟩
  | _, _ => ⟨S1x8192x3072, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![3, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x3072 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S3072x1024 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferenceIdeal.lean ====
abbrev S1x8192x3072 : Shape := ⟨3, ![1, 8192, 3072]⟩
abbrev S1x8192x1 : Shape := ⟨3, ![1, 8192, 1]⟩
abbrev S3072x3072 : Shape := ⟨2, ![3072, 3072]⟩
abbrev S3072 : Shape := ⟨1, ![3072]⟩
abbrev S1x1x3072 : Shape := ⟨3, ![1, 1, 3072]⟩

abbrev nBuf : Space → Nat
  | .hbm => 6
  | .vmem => 6
  | .smem => 0
  | _ => 0

abbrev bufTy : (tb : Table) → Fin (tcTables nBuf tb) → BufTy
  | .hbm, ⟨0, _⟩ => ⟨S1x8192x3072, .fp8e4m3⟩
  | .hbm, ⟨1, _⟩ => ⟨S1x8192x1, .f32⟩
  | .hbm, ⟨2, _⟩ => ⟨S3072x3072, .fp8e4m3⟩
  | .hbm, ⟨3, _⟩ => ⟨S3072, .f32⟩
  | .hbm, ⟨4, _⟩ => ⟨S3072, .f32⟩
  | .hbm, ⟨5, _⟩ => ⟨S1x8192x3072, .bf16⟩
  | .local _ .vmem, ⟨0, _⟩ => ⟨S1x8192x3072, .fp8e4m3⟩
  | .local _ .vmem, ⟨1, _⟩ => ⟨S1x8192x1, .f32⟩
  | .local _ .vmem, ⟨2, _⟩ => ⟨S3072x3072, .fp8e4m3⟩
  | .local _ .vmem, ⟨3, _⟩ => ⟨S3072, .f32⟩
  | .local _ .vmem, ⟨4, _⟩ => ⟨S3072, .f32⟩
  | .local _ .vmem, ⟨5, _⟩ => ⟨S1x8192x3072, .bf16⟩
  | _, _ => ⟨S1x8192x3072, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S1x8192x3072 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x8192x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3072x3072 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S3072 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S3072 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x8192x3072 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.Spec.lean ====
/-
  The function both programs compute, over the extended reals: a matrix product of the codes, scaled by token and by
  output channel, plus a bias.
-/
module

public import Idealize.ShloMosaic.PureOps.Ideal
public import Idealize.ShloMosaic.Lib.Pointwise

@[expose] public section

noncomputable section

namespace Cert.Proof

open Idealize.ShloMosaic

/-- Token `r`, output channel `n` of the scaled linear layer: the sum over the 3072 input channels of the products of the
    codes of `x` and of `w`, times the token's scale, times the channel's scale, plus the channel's bias. -/
def entry (x : FVec Ideal ⟨3, ![1, 8192, 3072]⟩ .fp8e4m3) (xs : FVec Ideal ⟨3, ![1, 8192, 1]⟩ .f32)
    (w : FVec Ideal ⟨2, ![3072, 3072]⟩ .fp8e4m3) (ws : FVec Ideal ⟨1, ![3072]⟩ .f32) (b : FVec Ideal ⟨1, ![3072]⟩ .f32)
    (r : Fin 8192) (n : Fin 3072) : EReal :=
  (∑ k : Fin 3072, x (ix3 (0 : Fin 1) r k) * w (ix2 k n)) * xs (ix3 (0 : Fin 1) r (0 : Fin 1)) * ws (ix1 n) + b (ix1 n)

/-- The whole result array, [1, 8192, 3072]. -/
def linear (x : FVec Ideal ⟨3, ![1, 8192, 3072]⟩ .fp8e4m3) (xs : FVec Ideal ⟨3, ![1, 8192, 1]⟩ .f32)
    (w : FVec Ideal ⟨2, ![3072, 3072]⟩ .fp8e4m3) (ws : FVec Ideal ⟨1, ![3072]⟩ .f32) (b : FVec Ideal ⟨1, ![3072]⟩ .f32) :
    FVec Ideal ⟨3, ![1, 8192, 3072]⟩ .bf16 := fun i => entry x xs w ws b (i 1) (i 2)

end Cert.Proof

end
-- ==== Proof.Block.lean ====
/-
  What one grid point of the kernel stores, at the ideal instance: the scaled products of its blocks.
-/
module

public import proofs.«01_k».proof.Proof.Gen.KernelIdeal.Skeleton
public import Idealize.ShloMosaic.Lib.Pointwise

@[expose] public section

noncomputable section

namespace Cert.Proof.Block

open Idealize.ShloMosaic Idealize.SL.Sem
open Cert.KernelIdeal Cert.KernelIdeal.Gen

/-- Row `p`, column `q` of what the body stores, from the blocks it loads: the sum of products over the 3072 input channels,
    times the row's scale, times the column's scale, plus the column's bias. -/
theorem pay_apply (x : FVec Ideal S512x3072 .fp8e4m3) (w : FVec Ideal S3072x1024 .fp8e4m3) (xs : FVec Ideal S512x1 .f32)
    (ws b : FVec Ideal S1x1024 .f32) (p : Fin 512) (q : Fin 1024) :
    k0_pay1 (F := Ideal) x w xs ws b (ix2 p q)
      = (∑ k : Fin 3072, x (ix2 p k) * w (ix2 k q)) * xs (ix2 p (0 : Fin 1)) * ws (ix2 (0 : Fin 1) q)
        + b (ix2 (0 : Fin 1) q) := by
  pointwise [k0_pay1]

end Cert.Proof.Block

end
-- ==== Proof.KernelValue.lean ====
/-
  What the kernel program computes at the ideal instance: every grid point writes back its block of one whole-array function,
  the blocks tile the pallas_call's result, and the host's last reshape adds the batch axis; so the result array holds
  `linear` of the argument arrays.
-/
module

public import proofs.«01_k».proof.Proof.Spec
public import proofs.«01_k».proof.Proof.Block
public import proofs.«01_k».proof.Proof.Gen.KernelIdeal.Frame
public import Idealize.ShloMosaic.Lib.Pipeline.Value
public import Idealize.ShloMosaic.Lib.Claim

@[expose] public section

noncomputable section

namespace Cert.Proof.KernelValue

open Idealize.ShloMosaic Idealize.ShloMosaic.TcCoe Idealize.SL.Sem
open Cert.KernelIdeal Cert.KernelIdeal.Gen
open Idealize.ShloMosaic.Pipeline (Dat Cfg Window)

variable (m : (ℓ : Loc nD τ sig) → Buf (Elt Ideal) ℓ) (ρ : Dev nD → PrngReg)

/-- Entry (r, n) of the scaled linear layer of device `c`'s argument arrays. -/
abbrev ent (c : Dev nD) (r : Fin 8192) (n : Fin 3072) : EReal :=
  entry (m ((c : Thread nD τ).loc main_arg0)) (m ((c : Thread nD τ).loc main_arg1)) (m ((c : Thread nD τ).loc main_arg2))
    (m ((c : Thread nD τ).loc main_arg3)) (m ((c : Thread nD τ).loc main_arg4)) r n

/-- The same as the [8192, 3072] array that the pallas_call writes. -/
def G (c : Dev nD) : Buf (Elt Ideal) ((c : Thread nD τ).loc main_v4) :=
  show S8192x3072.Idx → EReal from fun i => ent m c (i 0) (i 1)

/-- and as the [1, 8192, 3072] result. -/
abbrev out (c : Dev nD) : Buf (Elt Ideal) ((c : Thread nD τ).loc main_v5) :=
  linear (m ((c : Thread nD τ).loc main_arg0)) (m ((c : Thread nD τ).loc main_arg1)) (m ((c : Thread nD τ).loc main_arg2))
    (m ((c : Thread nD τ).loc main_arg3)) (m ((c : Thread nD τ).loc main_arg4))

/-! ### The operands as the region finds them: the host's reshapes read at an index -/

/-- The codes of x as a [8192, 3072] array. -/
theorem V_x (c : Dev nD) (r : Fin 8192) (k : Fin 3072) :
    (V m c main_v0 : S8192x3072.Idx → EReal) (ix2 r k) = m ((c : Thread nD τ).loc main_arg0) (ix3 (0 : Fin 1) r k) := by
  simp only [V, V0, List.flatten_cons, List.flatten_nil, List.append_nil]
  entry_read
  pointwise
/-- The token scales as a column. -/
theorem V_xs (c : Dev nD) (r : Fin 8192) :
    (V m c main_v1 : S8192x1.Idx → EReal) (ix2 r (0 : Fin 1)) = m ((c : Thread nD τ).loc main_arg1) (ix3 (0 : Fin 1) r (0 : Fin 1)) := by
  simp only [V, V0, List.flatten_cons, List.flatten_nil, List.append_nil]
  entry_read
  pointwise
/-- The channel scales as a row. -/
theorem V_ws (c : Dev nD) (n : Fin 3072) :
    (V m c main_v2 : S1x3072.Idx → EReal) (ix2 (0 : Fin 1) n) = m ((c : Thread nD τ).loc main_arg3) (ix1 n) := by
  simp only [V, V0, List.flatten_cons, List.flatten_nil, List.append_nil]
  entry_read
  pointwise
/-- The bias as a row. -/
theorem V_b (c : Dev nD) (n : Fin 3072) :
    (V m c main_v3 : S1x3072.Idx → EReal) (ix2 (0 : Fin 1) n) = m ((c : Thread nD τ).loc main_arg4) (ix1 n) := by
  simp only [V, V0, List.flatten_cons, List.flatten_nil, List.append_nil]
  entry_read
  pointwise

/-! ### The windows' blocks -/

/-- Row `p` of point `t`'s row block: 16 row blocks of 512 are walked inside each of the 3 column blocks of 1024. -/
def row (t : Fin cfg0.N) (p : Fin 512) : Fin 8192 := ⟨t.val % 16 * 512 + p.val, by omega⟩
/-- Column `q` of point `t`'s column block. -/
def col (t : Fin cfg0.N) (q : Fin 1024) : Fin 3072 := ⟨t.val / 16 * 1024 + q.val, by have := t.isLt; have : cfg0.N = 48 := N_0; omega⟩

/-- Which block of its array each window is on at point `t`. -/
theorem idx_facts (t : Fin cfg0.N) :
    win0_0.index t 0 = t.val % 16 ∧ win0_0.index t 1 = 0 ∧ win0_1.index t 0 = t.val % 16 ∧ win0_1.index t 1 = 0
    ∧ win0_2.index t 0 = 0 ∧ win0_2.index t 1 = t.val / 16 ∧ win0_3.index t 0 = 0 ∧ win0_3.index t 1 = t.val / 16
    ∧ win0_4.index t 0 = 0 ∧ win0_4.index t 1 = t.val / 16 ∧ win0_5.index t 0 = t.val % 16 ∧ win0_5.index t 1 = t.val / 16 := by
  revert t; decide +kernel

/-- The block of x at point `t`, read at an index: the argument at the point's rows. -/
theorem blk_x (c : Dev nD) (t : Fin cfg0.N) (p : Fin 512) (k : Fin 3072) :
    (iblk m c 0 t : S512x3072.Idx → EReal) (ix2 p k) = m ((c : Thread nD τ).loc main_arg0) (ix3 (0 : Fin 1) (row t p) k) := by
  rw [← V_x m c]
  show (V m c main_v0 : S8192x3072.Idx → EReal) ((win0_0.rect t).emb (ix2 p k)) = _
  have h := idx_facts t
  refine congrArg _ (Shape.idx_ext₂ ?_ ?_)
  · exact (Window.rect_emb_val win0_0 t (ix2 p k) 0).trans (by rw [h.1]; rfl)
  · exact (Window.rect_emb_val win0_0 t (ix2 p k) 1).trans (by rw [h.2.1, Nat.zero_mul, Nat.zero_add]; rfl)
/-- The block of token scales: the argument at the point's rows. -/
theorem blk_xs (c : Dev nD) (t : Fin cfg0.N) (p : Fin 512) :
    (iblk m c 1 t : S512x1.Idx → EReal) (ix2 p (0 : Fin 1)) = m ((c : Thread nD τ).loc main_arg1) (ix3 (0 : Fin 1) (row t p) (0 : Fin 1)) := by
  rw [← V_xs m c]
  show (V m c main_v1 : S8192x1.Idx → EReal) ((win0_1.rect t).emb (ix2 p (0 : Fin 1))) = _
  have h := idx_facts t
  refine congrArg _ (Shape.idx_ext₂ ?_ ?_)
  · exact (Window.rect_emb_val win0_1 t (ix2 p (0 : Fin 1)) 0).trans (by rw [h.2.2.1]; rfl)
  · exact (Window.rect_emb_val win0_1 t (ix2 p (0 : Fin 1)) 1).trans (by rw [h.2.2.2.1, Nat.zero_mul, Nat.zero_add]; rfl)
/-- The block of w: the argument at the point's columns. -/
theorem blk_w (c : Dev nD) (t : Fin cfg0.N) (k : Fin 3072) (q : Fin 1024) :
    (iblk m c 2 t : S3072x1024.Idx → EReal) (ix2 k q) = m ((c : Thread nD τ).loc main_arg2) (ix2 k (col t q)) := by
  rw [← V_main_arg2 m c]
  show (V m c main_arg2 : S3072x3072.Idx → EReal) ((win0_2.rect t).emb (ix2 k q)) = _
  have h := (idx_facts t).2.2.2.2
  refine congrArg (V m c main_arg2 : S3072x3072.Idx → EReal) (Shape.idx_ext₂ ?_ ?_)
  · exact (Window.rect_emb_val win0_2 t (ix2 k q) 0).trans (by rw [h.1, Nat.zero_mul, Nat.zero_add]; rfl)
  · exact (Window.rect_emb_val win0_2 t (ix2 k q) 1).trans (by rw [h.2.1]; rfl)
/-- The block of channel scales: the argument at the point's columns. -/
theorem blk_ws (c : Dev nD) (t : Fin cfg0.N) (q : Fin 1024) :
    (iblk m c 3 t : S1x1024.Idx → EReal) (ix2 (0 : Fin 1) q) = m ((c : Thread nD τ).loc main_arg3) (ix1 (col t q)) := by
  rw [← V_ws m c]
  show (V m c main_v2 : S1x3072.Idx → EReal) ((win0_3.rect t).emb (ix2 (0 : Fin 1) q)) = _
  have h := (idx_facts t).2.2.2.2.2.2
  refine congrArg _ (Shape.idx_ext₂ ?_ ?_)
  · exact (Window.rect_emb_val win0_3 t (ix2 (0 : Fin 1) q) 0).trans (by rw [h.1, Nat.zero_mul, Nat.zero_add]; rfl)
  · exact (Window.rect_emb_val win0_3 t (ix2 (0 : Fin 1) q) 1).trans (by rw [h.2.1]; rfl)
/-- The block of the bias: the argument at the point's columns. -/
theorem blk_b (c : Dev nD) (t : Fin cfg0.N) (q : Fin 1024) :
    (iblk m c 4 t : S1x1024.Idx → EReal) (ix2 (0 : Fin 1) q) = m ((c : Thread nD τ).loc main_arg4) (ix1 (col t q)) := by
  rw [← V_b m c]
  show (V m c main_v3 : S1x3072.Idx → EReal) ((win0_4.rect t).emb (ix2 (0 : Fin 1) q)) = _
  have h := (idx_facts t).2.2.2.2.2.2.2.2
  refine congrArg _ (Shape.idx_ext₂ ?_ ?_)
  · exact (Window.rect_emb_val win0_4 t (ix2 (0 : Fin 1) q) 0).trans (by rw [h.1, Nat.zero_mul, Nat.zero_add]; rfl)
  · exact (Window.rect_emb_val win0_4 t (ix2 (0 : Fin 1) q) 1).trans (by rw [h.2.1]; rfl)

/-! ### What each point writes back, and the array after all of them -/

/-- A whole-buffer offset is zero on every axis. -/
theorem hz : (![0, 0] : Fin 2 → Nat) = fun _ => 0 := funext fun a => by fin_cases a <;> rfl

/-- The body's payload at point `t`, read at (p, q): entry (row t p, col t q) of the whole layer. -/
theorem pay_at (c : Dev nD) (t : Fin cfg0.N) (p : Fin 512) (q : Fin 1024) :
    k0_pay1 (F := Ideal) (iblk m c 0 t) (iblk m c 2 t) (iblk m c 1 t) (iblk m c 3 t) (iblk m c 4 t) (ix2 p q)
      = ent m c (row t p) (col t q) := by
  refine (Block.pay_apply _ _ _ _ _ p q).trans ?_
  rw [blk_xs, blk_ws, blk_b]
  simp only [blk_x, blk_w]
  rfl

/-- What point `t` writes back is block `t` of the whole layer. -/
theorem flushed_eq (c : Dev nD) (t : Fin cfg0.N) :
    (dats (F := Ideal) m 0 c).flushed 5 t = (win0_5.blk t).view.read (Elt Ideal) (G m c) := by
  show (cfg0.win 5).cut (grid0.coords t) ((dats (F := Ideal) m 0 c).after 5 t) = _
  rw [after0_5]
  unfold out0_5
  rw [View.canon_unit_zero hz, View.ld_unit_zero hz, View.ld_unit_zero hz, View.ld_unit_zero hz, View.ld_unit_zero hz,
    View.ld_unit_zero hz]
  have h := (idx_facts t).2.2.2.2.2.2.2.2.2.2
  funext y
  have hy : (y : S512x1024.Idx) = ix2 (y 0 : Fin 512) (y 1 : Fin 1024) := Shape.idx_ext₂ rfl rfl
  show k0_pay1 (F := Ideal) (iblk m c 0 t) (iblk m c 2 t) (iblk m c 1 t) (iblk m c 3 t) (iblk m c 4 t) (y : S512x1024.Idx)
    = G m c ((win0_5.rect t).emb y)
  refine (congrArg _ hy).trans ((pay_at m c t _ _).trans ?_)
  refine (congrArg₂ (ent m c) (Fin.ext ?_) (Fin.ext ?_) : _ = ent m c ((win0_5.rect t).emb y 0) ((win0_5.rect t).emb y 1))
  · exact ((Window.rect_emb_val win0_5 t y 0).trans (by rw [h.1]; rfl)).symm
  · exact ((Window.rect_emb_val win0_5 t y 1).trans (by rw [h.2]; rfl)).symm

/-- An index of the array is in point `t`'s block when its row is among the block's 512 and its column among the 1024. -/
theorem mem_blk (t : Fin cfg0.N) (i : S8192x3072.Idx) (h0 : t.val % 16 * 512 ≤ (i 0 : Nat) ∧ (i 0 : Nat) < t.val % 16 * 512 + 512)
    (h1 : t.val / 16 * 1024 ≤ (i 1 : Nat) ∧ (i 1 : Nat) < t.val / 16 * 1024 + 1024) :
    i ∈ ((cfg0.win 5).blk t).view.set := by
  show i ∈ ((View.whole main_v4).slice (win0_5.rect t)).set
  rw [View.set_slice_whole, Rect.mem_set_unit]
  have h := (idx_facts t).2.2.2.2.2.2.2.2.2.2
  intro a
  match a with
  | ⟨0, _⟩ => show win0_5.index t 0 * 512 ≤ (i 0 : Nat) ∧ (i 0 : Nat) < win0_5.index t 0 * 512 + 512
              rw [h.1]; exact h0
  | ⟨1, _⟩ => show win0_5.index t 1 * 1024 ≤ (i 1 : Nat) ∧ (i 1 : Nat) < win0_5.index t 1 * 1024 + 1024
              rw [h.2]; exact h1

/-- The blocks tile the array: row `r`, column `n` is in the block of point `16 (n / 1024) + r / 512`. -/
theorem cover (i : S8192x3072.Idx) :
    ∃ t : Fin cfg0.N, (cfg0.win 5).flush t = true ∧ i ∈ ((cfg0.win 5).blk t).view.set := by
  have h0 : (i 0 : Nat) < 8192 := (i 0).isLt
  have h1 : (i 1 : Nat) < 3072 := (i 1).isLt
  have hN : cfg0.N = 48 := N_0
  refine ⟨⟨(i 1 : Nat) / 1024 * 16 + (i 0 : Nat) / 512, by omega⟩, flush0_5 _, mem_blk _ i ?_ ?_⟩ <;> dsimp only <;> omega

/-- So the pallas_call's result array ends holding the whole layer. -/
theorem final (c : Dev nD) : (dats (F := Ideal) m 0 c).arrAt 5 cfg0.N = G m c :=
  (dats (F := Ideal) m 0 c).arrAt_eq_of_cover 5 (G m c) (fun t _ => flushed_eq m c t) cover

/-- The host's last reshape of the [8192, 3072] layer is the [1, 8192, 3072] one. -/
theorem reshape_out (c : Dev nD) (h : S8192x3072.ShapeCasts S1x8192x3072) :
    shapeCast S1x8192x3072 (G m c : S8192x3072.Idx → EReal) h = out m c := by
  funext j
  refine (shapeCast_apply _ h j (ix2 (j 1 : Fin 8192) (j 2 : Fin 3072)) ?_).trans rfl
  have h0 : (j 0 : Nat) < 1 := (j 0).isLt
  rw [Shape.rowMajor_val_two, Shape.rowMajor_val_three]
  show (j 1 : Nat) * 3072 + (j 2 : Nat) = ((j 0 : Nat) * 8192 + (j 1 : Nat)) * 3072 + (j 2 : Nat)
  omega

/-- The program's result after the host operation that follows the pallas_call. -/
theorem tail_out (c : Dev nD) :
    Pipeline.afterTail₀ cfgs (dats (F := Ideal) m) 0 (V0 m) [hostOps1] c main_v5 = out m c := by
  unfold Pipeline.afterTail₀
  simp only [hostOps1, List.flatten_cons, List.flatten_nil, List.append_nil, StableHlo.after_cons, StableHlo.after_nil]
  rw [StableHlo.reshape_result]
  have e := Pipeline.withArrays_arr (cfgs 0).spec launch0.win.arr_inj c (V0 m c)
    (fun w => (dats (F := Ideal) m 0 c).arrAt w (cfgs 0).N) 5
  refine Eq.trans ?_ (reshape_out m c shapeCasts_S8192x3072_S1x8192x3072)
  rw [← final m c]
  exact congrArg (fun f : S8192x3072.Idx → EReal => shapeCast S1x8192x3072 f shapeCasts_S8192x3072_S1x8192x3072) e

/-- The run: the result is the scaled linear layer of the arguments, and the arguments end unchanged. -/
theorem run : θ_run (defs (F := Ideal)) (onTc (τ := τ) (main (F := Ideal))) ⟨m, fun _ => 0, ρ⟩ (fun r => ∀ c : Dev nD,
    r.2.mem ((c.tc : Thread nD τ).loc main_v5) = out m c
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)) :=
  (θ_run defs _ _).mono (fun _ h c => ⟨((h.1 c).2 main_v5 (Pipeline.mem_restRefs_of main_v5 (by decide) (by decide))).trans
      (tail_out m c), h.2 c⟩)
    (θ_run_and (run_main (F := Ideal) m ρ) (unchanged (F := Ideal) m ρ))

end Cert.Proof.KernelValue

end
-- ==== Proof.RefValue.lean ====
/-
  What the reference program computes at the ideal instance: its one block is the whole result array, and it holds `linear`
  of the argument arrays.
-/
module

public import proofs.«01_k».proof.Proof.Spec
public import proofs.«01_k».proof.Proof.Gen.ReferenceIdeal.Frame
public import Idealize.ShloMosaic.Lib.Pipeline.Value
public import Idealize.ShloMosaic.Lib.Pointwise

@[expose] public section

noncomputable section

namespace Cert.Proof.RefValue

open Idealize.ShloMosaic Idealize.ShloMosaic.TcCoe Idealize.SL.Sem
open Cert.ReferenceIdeal Cert.ReferenceIdeal.Gen
open Idealize.ShloMosaic.Pipeline (Dat Cfg Window)

/-- What the reference's body stores is the scaled linear layer of what it loads. -/
theorem pay_eq (x : FVec Ideal S1x8192x3072 .fp8e4m3) (xs : FVec Ideal S1x8192x1 .f32) (w : FVec Ideal S3072x3072 .fp8e4m3)
    (ws b : FVec Ideal S3072 .f32) : k0_pay1 (F := Ideal) x xs w ws b = linear x xs w ws b := by
  funext j
  have h0 : j 0 = (0 : Fin 1) := Subsingleton.elim (α := Fin 1) _ _
  pointwise [k0_pay1, linear, entry]
  rw [h0]

variable (m : (ℓ : Loc nD τ sig) → Buf (Elt Ideal) ℓ) (ρ : Dev nD → PrngReg)

/-- The scaled linear layer of device `c`'s argument arrays. -/
abbrev out (c : Dev nD) : Buf (Elt Ideal) ((c : Thread nD τ).loc main_v0) :=
  linear (m ((c : Thread nD τ).loc main_arg0)) (m ((c : Thread nD τ).loc main_arg1)) (m ((c : Thread nD τ).loc main_arg2))
    (m ((c : Thread nD τ).loc main_arg3)) (m ((c : Thread nD τ).loc main_arg4))

/-- The one grid point. -/
def t₀ : Fin cfg0.N := ⟨0, by decide⟩

/-- The zero offset of a whole array of rank 1. -/
theorem hz1 : (![0] : Fin 1 → Nat) = fun _ => 0 := funext fun a => by fin_cases a <;> rfl
/-- The same at rank 2. -/
theorem hz2 : (![0, 0] : Fin 2 → Nat) = fun _ => 0 := funext fun a => by fin_cases a <;> rfl
/-- The same at rank 3. -/
theorem hz3 : (![0, 0, 0] : Fin 3 → Nat) = fun _ => 0 := funext fun a => by fin_cases a <;> rfl

/-- The whole-buffer loads read the buffers and the one covering store leaves its payload. -/
theorem out_eq (x0 : Vec Ideal S1x8192x3072 .fp8e4m3) (x1 : Vec Ideal S1x8192x1 .f32) (x2 : Vec Ideal S3072x3072 .fp8e4m3)
    (x3 x4 : Vec Ideal S3072 .f32) : out0_5 (F := Ideal) x0 x1 x2 x3 x4 = linear x0 x1 x2 x3 x4 := by
  unfold out0_5
  rw [View.canon_unit_zero hz3, View.ld_unit_zero hz3, View.ld_unit_zero hz3, View.ld_unit_zero hz2,
    View.ld_unit_zero hz1, View.ld_unit_zero hz1]
  exact pay_eq x0 x1 x2 x3 x4

/-- The result array after the run, read through its one block, is what the one point wrote back. -/
theorem final_out (c : Dev nD) :
    ((cfg0.win (5 : Fin 6)).blk t₀).view.read (Elt Ideal) ((dats (F := Ideal) m 0 c).arrAt (5 : Fin 6) cfg0.N)
      = (dats (F := Ideal) m 0 c).flushed (5 : Fin 6) t₀ := by
  rw [show cfg0.N = (t₀ : Fin cfg0.N).val + 1 from rfl, (dats (F := Ideal) m 0 c).arrAt_succ (5 : Fin 6) t₀]
  rw [show (cfg0.win (5 : Fin 6)).flush t₀ = true from flush0_5 t₀, if_pos rfl]
  exact View.read_write_univ _ _

/-- The result array after the run holds the scaled linear layer of the arguments. -/
theorem final_value (c : Dev nD) : (dats (F := Ideal) m 0 c).arrAt (5 : Fin 6) cfg0.N = out m c := by
  have ho := final_out m c
  have hi (w : Fin 6) (a) : (cfg0.win w).index t₀ a * (cfg0.win w).size a = 0 := by
    fin_cases w <;> fin_cases a <;> rfl
  have hr5 := fun f => Memref.read_access_unit_zero (Elt Ideal) main_v0 (funext (hi 5)) (fun a => by fin_cases a <;> decide) f
  have hr0 := fun f => Memref.read_access_unit_zero (Elt Ideal) main_arg0 (funext (hi 0)) (fun a => by fin_cases a <;> decide) f
  have hr1 := fun f => Memref.read_access_unit_zero (Elt Ideal) main_arg1 (funext (hi 1)) (fun a => by fin_cases a <;> decide) f
  have hr2 := fun f => Memref.read_access_unit_zero (Elt Ideal) main_arg2 (funext (hi 2)) (fun a => by fin_cases a <;> decide) f
  have hr3 := fun f => Memref.read_access_unit_zero (Elt Ideal) main_arg3 (funext (hi 3)) (fun a => by fin_cases a <;> decide) f
  have hr4 := fun f => Memref.read_access_unit_zero (Elt Ideal) main_arg4 (funext (hi 4)) (fun a => by fin_cases a <;> decide) f
  rw [hr5] at ho
  rw [ho]
  show (cfg0.win (5 : Fin 6)).cut _ ((dats (F := Ideal) m 0 c).after 5 t₀) = _
  rw [after0_5, out_eq]
  unfold iblk
  rw [hr0, hr1, hr2, hr3, hr4]
  rfl

/-- The run: the result is the scaled linear layer of the arguments, and the arguments end unchanged. -/
theorem run : θ_run (defs (F := Ideal)) (onTc (τ := τ) (main (F := Ideal))) ⟨m, fun _ => 0, ρ⟩ (fun r => ∀ c : Dev nD,
    r.2.mem ((c.tc : Thread nD τ).loc main_v0) = out m c
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)) :=
  (θ_run defs _ _).mono (fun _ h c => ⟨((h.1 c).1 5).trans (final_value m c), h.2 c⟩)
    (θ_run_and (run_main (F := Ideal) m ρ) (unchanged (F := Ideal) m ρ))

end Cert.Proof.RefValue

end
-- ==== Proof.lean ====
/-
  The proof of everything the certificate claims (`Cert.Claim`, Defs.lean).

  The three frames are the generated ones. No operation was rewritten between the kernel and its ideal reading, so
  `preserves` states nothing further. The value claim is proved in two halves: `KernelValue.run` (the kernel's result holds
  the scaled linear layer of its arguments) and `RefValue.run` (so does the reference's).
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.KernelValue
public import proofs.«01_k».proof.Proof.RefValue
public import Idealize.ShloMosaic.Adequacy
public import Idealize.ShloMosaic.Init

@[expose] public section

noncomputable section

namespace Cert.Proof

open Idealize.ShloMosaic Idealize.SL.Sem

/-- From memories that agree on the five arguments, the kernel and the reference, read over the extended reals, both run and
    end with the same [1, 8192, 3072] result, `linear` of the arguments, and with their arguments unchanged. -/
theorem algebraic : Cert.algebraic_KernelIdeal_ReferenceIdeal := by
  intro m g m' g' _ hagree
  refine ⟨fun c => KernelValue.out m c, KernelValue.run m g, ?_⟩
  refine (θ_run _ _ _).mono (fun _ h c => ⟨(h c).1.trans ?_, (h c).2⟩) (RefValue.run m' g')
  obtain ⟨h0, h1, h2, h3, h4⟩ := hagree c
  show linear _ _ _ _ _ = linear _ _ _ _ _
  rw [h0, h1, h2, h3, h4]

/-- Everything claimed: each of the three programs runs to the end with its arguments unchanged and every semaphore at zero;
    the ideal kernel is the kernel's own text; and the ideal kernel and the reference compute the same result. -/
theorem claim : Cert.Claim :=
  ⟨Cert.Kernel.Gen.facts, Cert.KernelIdeal.Gen.facts, Cert.ReferenceIdeal.Gen.facts,
    fun m ρ _ => Cert.Kernel.Gen.frame m ρ, fun m ρ _ => Cert.KernelIdeal.Gen.frame m ρ,
    fun m ρ _ => Cert.ReferenceIdeal.Gen.frame m ρ, trivial, algebraic⟩

end Cert.Proof

end
